-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x8192 : Shape := ⟨3, ![64, 1, 8192]⟩
abbrev S8192x8192 : Shape := ⟨2, ![8192, 8192]⟩
abbrev S8192 : Shape := ⟨1, ![8192]⟩
abbrev S64x8192 : Shape := ⟨2, ![64, 8192]⟩
abbrev S1x8192 : Shape := ⟨2, ![1, 8192]⟩
abbrev S512x8192 : Shape := ⟨2, ![512, 8192]⟩
abbrev S1x512 : Shape := ⟨2, ![1, 512]⟩
abbrev S64x512 : Shape := ⟨2, ![64, 512]⟩

abbrev nBuf : Space → Nat
  | .hbm => 7
  | .vmem => 7
  | .smem => 0
  | _ => 0

abbrev bufTy : (tb : Table) → Fin (tcTables nBuf tb) → BufTy
  | .hbm, ⟨0, _⟩ => ⟨S64x1x8192, .bf16⟩
  | .hbm, ⟨1, _⟩ => ⟨S8192x8192, .fp8e4m3⟩
  | .hbm, ⟨2, _⟩ => ⟨S8192, .f32⟩
  | .hbm, ⟨3, _⟩ => ⟨S64x8192, .bf16⟩
  | .hbm, ⟨4, _⟩ => ⟨S1x8192, .f32⟩
  | .hbm, ⟨5, _⟩ => ⟨S64x8192, .bf16⟩
  | .hbm, ⟨6, _⟩ => ⟨S64x1x8192, .bf16⟩
  | .local _ .vmem, ⟨0, _⟩ => ⟨S64x8192, .bf16⟩
  | .local _ .vmem, ⟨1, _⟩ => ⟨S512x8192, .fp8e4m3⟩
  | .local _ .vmem, ⟨2, _⟩ => ⟨S512x8192, .fp8e4m3⟩
  | .local _ .vmem, ⟨3, _⟩ => ⟨S1x512, .f32⟩
  | .local _ .vmem, ⟨4, _⟩ => ⟨S1x512, .f32⟩
  | .local _ .vmem, ⟨5, _⟩ => ⟨S64x512, .bf16⟩
  | .local _ .vmem, ⟨6, _⟩ => ⟨S64x512, .bf16⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x1x8192 : Shape := ⟨3, ![64, 1, 8192]⟩
abbrev S8192x8192 : Shape := ⟨2, ![8192, 8192]⟩
abbrev S8192 : Shape := ⟨1, ![8192]⟩
abbrev S64x8192 : Shape := ⟨2, ![64, 8192]⟩
abbrev S1x8192 : Shape := ⟨2, ![1, 8192]⟩

abbrev nBuf : Space → Nat
  | .hbm => 7
  | .vmem => 4
  | .smem => 0
  | _ => 0

abbrev bufTy : (tb : Table) → Fin (tcTables nBuf tb) → BufTy
  | .hbm, ⟨0, _⟩ => ⟨S64x1x8192, .bf16⟩
  | .hbm, ⟨1, _⟩ => ⟨S8192x8192, .fp8e4m3⟩
  | .hbm, ⟨2, _⟩ => ⟨S8192, .f32⟩
  | .hbm, ⟨3, _⟩ => ⟨S64x8192, .bf16⟩
  | .hbm, ⟨4, _⟩ => ⟨S1x8192, .f32⟩
  | .hbm, ⟨5, _⟩ => ⟨S64x8192, .bf16⟩
  | .hbm, ⟨6, _⟩ => ⟨S64x1x8192, .bf16⟩
  | .local _ .vmem, ⟨0, _⟩ => ⟨S64x8192, .bf16⟩
  | .local _ .vmem, ⟨1, _⟩ => ⟨S8192x8192, .fp8e4m3⟩
  | .local _ .vmem, ⟨2, _⟩ => ⟨S1x8192, .f32⟩
  | .local _ .vmem, ⟨3, _⟩ => ⟨S64x8192, .bf16⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Linear.lean ====
/- The linear layer as one formula over the extended reals: what both programs are shown to compute. -/
module

public import Idealize.ShloMosaic.Lib.Pointwise
public import Idealize.ShloMosaic.PureOps.Ideal

@[expose] public section

noncomputable section

namespace Cert.Linear

open Idealize.ShloMosaic
open scoped BigOperators

/-- The linear layer: entry `(r, c)` is the product of row `r` of the activations with row `c` of the weight codes, times
    the scale of that weight row. -/
def linear (x : FVec Ideal ⟨2, ![64, 8192]⟩ .bf16) (w : FVec Ideal ⟨2, ![8192, 8192]⟩ .fp8e4m3)
    (s : FVec Ideal ⟨2, ![1, 8192]⟩ .f32) : FVec Ideal ⟨2, ![64, 8192]⟩ .bf16 :=
  fun i => (∑ k : Fin 8192, x (ix2 (i 0) k) * w (ix2 (i 1) k)) * s (ix2 0 (i 1))

/-- The linear layer of the three arguments as they are passed: the activations read as a matrix, the scales as a row, the
    result given back the shape of the activations. -/
def layer (hx : Shape.ShapeCasts ⟨3, ![64, 1, 8192]⟩ ⟨2, ![64, 8192]⟩) (hs : Shape.ShapeCasts ⟨1, ![8192]⟩ ⟨2, ![1, 8192]⟩)
    (hy : Shape.ShapeCasts ⟨2, ![64, 8192]⟩ ⟨3, ![64, 1, 8192]⟩)
    (x : FVec Ideal ⟨3, ![64, 1, 8192]⟩ .bf16) (w : FVec Ideal ⟨2, ![8192, 8192]⟩ .fp8e4m3)
    (s : FVec Ideal ⟨1, ![8192]⟩ .f32) : FVec Ideal ⟨3, ![64, 1, 8192]⟩ .bf16 :=
  shapeCast _ (linear (shapeCast _ x hx) w (shapeCast _ s hs)) hy

end Cert.Linear

end
-- ==== Proof.KernelValue.lean ====
/- What the kernel computes: each grid point writes one block of columns of the linear layer, and the blocks fill the result. -/
module

public import proofs.«01_k».proof.Proof.Linear
public import proofs.«01_k».proof.Proof.Gen.KernelIdeal.Frame

@[expose] public section

noncomputable section

namespace Cert.KernelIdeal.KValue

open Cert.KernelIdeal Cert.KernelIdeal.Gen Idealize.ShloMosaic Idealize.ShloMosaic.TcCoe Idealize.SL.Sem
open Idealize.ShloMosaic.Pipeline (Dat)
open scoped BigOperators

/-- The body's payload at an entry: the product of the activation row with the block's weight row, times its scale. -/
theorem pay_apply (x : Vec Ideal S64x8192 .bf16) (w : Vec Ideal S512x8192 .fp8e4m3) (s : Vec Ideal S1x512 .f32)
    (r : Fin 64) (c : Fin 512) :
    k0_pay1 (F := Ideal) x w s (ix2 r c) = (∑ k : Fin 8192, (x (ix2 r k) : EReal) * w (ix2 c k)) * s (ix2 0 c) := by
  pointwise [k0_pay1]

/-- A pair of offsets that are both zero. -/
theorem hz (z : Fin 2 → Nat) (h0 : z 0 = 0) (h1 : z 1 = 0) : z = fun _ => 0 :=
  funext fun a => by fin_cases a <;> assumption

variable (m : (ℓ : Loc nD τ sig) → Buf (Elt Ideal) ℓ) (ρ : Dev nD → PrngReg)

/-- The linear layer of the arrays the launch finds. -/
abbrev lin (c : Dev nD) : Buf (Elt Ideal) ((c : Thread nD τ).loc main_v2) :=
  Cert.Linear.linear (V m c main_v0) (V m c main_arg1) (V m c main_v1)

/-- Where each window's block of grid point `t` starts. -/
theorem idx_facts (t : Fin cfg0.N) : win0_0.index t 0 * 64 = 0 ∧ win0_0.index t 1 * 8192 = 0
    ∧ win0_1.index t 0 * 512 = t.val * 512 ∧ win0_1.index t 1 * 8192 = 0
    ∧ win0_2.index t 0 * 1 = 0 ∧ win0_2.index t 1 * 512 = t.val * 512
    ∧ win0_3.index t 0 * 64 = 0 ∧ win0_3.index t 1 * 512 = t.val * 512 := by
  rcases fin_N0 t with h|h|h|h|h|h|h|h|h|h|h|h|h|h|h|h <;> subst h <;> decide +kernel

/-- Entry `(r, l)` of the result's block at point `t`. -/
theorem emb3 (t : Fin cfg0.N) (r : Fin 64) (l : Fin 512) (h : t.val * 512 + l.val < 8192) :
    (win0_3.blk t).view.emb (ix2 r l) = (ix2 r ⟨t.val * 512 + l.val, h⟩ : S64x8192.Idx) := by
  obtain ⟨-, -, -, -, -, -, h7, h8⟩ := idx_facts t
  funext a; apply Fin.ext
  match a with
  | ⟨0, _⟩ => show win0_3.index t 0 * 64 + 1 * r.val = r.val; omega
  | ⟨1, _⟩ => show win0_3.index t 1 * 512 + 1 * l.val = t.val * 512 + l.val; omega

/-- Entry `(l, k)` of the weight codes' block at point `t`. -/
theorem emb1 (t : Fin cfg0.N) (l : Fin 512) (k : Fin 8192) (h : t.val * 512 + l.val < 8192) :
    (win0_1.blk t).view.emb (ix2 l k) = (ix2 ⟨t.val * 512 + l.val, h⟩ k : S8192x8192.Idx) := by
  obtain ⟨-, -, h3, h4, -, -, -, -⟩ := idx_facts t
  funext a; apply Fin.ext
  match a with
  | ⟨0, _⟩ => show win0_1.index t 0 * 512 + 1 * l.val = t.val * 512 + l.val; omega
  | ⟨1, _⟩ => show win0_1.index t 1 * 8192 + 1 * k.val = k.val; rw [h4, Nat.zero_add, Nat.one_mul]

/-- Entry `l` of the scales' block at point `t`. -/
theorem emb2 (t : Fin cfg0.N) (l : Fin 512) (h : t.val * 512 + l.val < 8192) :
    (win0_2.blk t).view.emb (ix2 0 l) = (ix2 0 ⟨t.val * 512 + l.val, h⟩ : S1x8192.Idx) := by
  obtain ⟨-, -, -, -, h5, h6, -, -⟩ := idx_facts t
  funext a; apply Fin.ext
  match a with
  | ⟨0, _⟩ => show win0_2.index t 0 * 1 + 1 * 0 = 0; omega
  | ⟨1, _⟩ => show win0_2.index t 1 * 512 + 1 * l.val = t.val * 512 + l.val; omega

/-- The activations' block is the whole array at every point. -/
theorem emb0 (t : Fin cfg0.N) (r : Fin 64) (k : Fin 8192) :
    (win0_0.blk t).view.emb (ix2 r k) = (ix2 r k : S64x8192.Idx) := by
  obtain ⟨h1, h2, -, -, -, -, -, -⟩ := idx_facts t
  funext a; apply Fin.ext
  match a with
  | ⟨0, _⟩ => show win0_0.index t 0 * 64 + 1 * r.val = r.val; omega
  | ⟨1, _⟩ => show win0_0.index t 1 * 8192 + 1 * k.val = k.val; rw [h2, Nat.zero_add, Nat.one_mul]

/-- What point `t` writes back: the body's payload of the blocks of the inputs at `t`. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- Grid point `t` writes back block `t` of the linear layer. -/
theorem flushed_eq (c : Dev nD) (t : Fin cfg0.N) :
    (dats m 0 c).flushed 3 t = (win0_3.blk t).view.read (Elt Ideal) (lin m c) := by
  rw [flushed3]
  unfold out0_3
  rw [View.canon_unit_zero (hz _ rfl rfl), View.ld_unit_zero (hz _ rfl rfl), View.ld_unit_zero (hz _ rfl rfl),
    View.ld_unit_zero (hz _ rfl rfl)]
  have hN : cfg0.N = 16 := N_0
  have ht := t.isLt
  funext j
  obtain ⟨r, l, rfl⟩ : ∃ (r : Fin 64) (l : Fin 512), j = ix2 r l := ⟨_, _, ValueIdx.eq_ix2 j⟩
  have hl : t.val * 512 + l.val < 8192 := by have := l.isLt; omega
  show k0_pay1 (F := Ideal) (iblk m c 0 t) (iblk m c 1 t) (iblk m c 2 t) (ix2 r l) = lin m c ((win0_3.blk t).view.emb (ix2 r l))
  rw [pay_apply, emb3 t r l hl]
  have e0 : ∀ k : Fin 8192, iblk m c 0 t (ix2 r k) = V m c main_v0 (ix2 r k) :=
    fun k => congrArg (V m c main_v0) (emb0 t r k)
  have e1 : ∀ k : Fin 8192, iblk m c 1 t (ix2 l k) = V m c main_arg1 (ix2 ⟨t.val * 512 + l.val, hl⟩ k) :=
    fun k => congrArg (V m c main_arg1) (emb1 t l k hl)
  have e2 : iblk m c 2 t (ix2 0 l) = V m c main_v1 (ix2 0 ⟨t.val * 512 + l.val, hl⟩) :=
    congrArg (V m c main_v1) (emb2 t l hl)
  exact congrArg₂ (fun a b : EReal => a * b)
    (Finset.sum_congr rfl fun k _ => congrArg₂ (fun a b : EReal => a * b) (e0 k) (e1 k)) e2

/-- The blocks cover the result: entry `(r, c)` lies in block `c / 512`. -/
theorem cover (i : S64x8192.Idx) : ∃ t : Fin cfg0.N, (cfg0.win 3).flush t = true ∧ i ∈ ((cfg0.win 3).blk t).view.set := by
  have hN : cfg0.N = 16 := N_0
  have hc : (i 1).val < 8192 := (i 1).isLt
  have ht : (i 1).val / 512 < cfg0.N := by omega
  refine ⟨⟨_, ht⟩, flush0_3 _, ?_⟩
  obtain ⟨-, -, -, -, -, -, h7, h8⟩ := idx_facts ⟨_, ht⟩
  have hr : (i 0).val < 64 := (i 0).isLt
  show i ∈ ((View.whole main_v2).slice (win0_3.rect ⟨_, ht⟩)).set
  rw [View.set_slice_whole, Rect.mem_set_unit]
  intro a
  match a with
  | ⟨0, _⟩ =>
    show win0_3.index ⟨_, ht⟩ 0 * 64 ≤ (i 0 : Nat) ∧ (i 0 : Nat) < win0_3.index ⟨_, ht⟩ 0 * 64 + 64
    rw [h7]; omega
  | ⟨1, _⟩ =>
    show win0_3.index ⟨_, ht⟩ 1 * 512 ≤ (i 1 : Nat) ∧ (i 1 : Nat) < win0_3.index ⟨_, ht⟩ 1 * 512 + 512
    rw [h8]; dsimp only; omega

/-- The result array ends holding the linear layer of the arrays the launch finds. -/
theorem final (c : Dev nD) : (dats m 0 c).arrAt 3 cfg0.N = lin m c :=
  (dats m 0 c).arrAt_eq_of_cover 3 (lin m c) (fun t _ => flushed_eq m c t) cover

/-- The host reshapes the activations to a matrix before the launch. -/
theorem V_main_v0 (c : Dev nD) :
    V m c main_v0 = shapeCast S64x8192 (m ((c : Thread nD τ).loc main_arg0)) shapeCasts_S64x1x8192_S64x8192 := by
  show StableHlo.after hostOps0 (fun b => m (c, b)) (Proc.devRef .tc main_v0) = _
  after_results
  rfl

/-- The host reshapes the scales to a row before the launch. -/
theorem V_main_v1 (c : Dev nD) :
    V m c main_v1 = shapeCast S1x8192 (m ((c : Thread nD τ).loc main_arg2)) shapeCasts_S8192_S1x8192 := by
  show StableHlo.after hostOps0 (fun b => m (c, b)) (Proc.devRef .tc main_v1) = _
  after_results
  rfl

/-- After the region the host gives the result array the shape of the activations. -/
theorem tail_main_v3 (c : Dev nD) :
    Pipeline.afterTail₀ cfgs (dats m) 0 (V0 m) [hostOps1] c main_v3
      = shapeCast S64x1x8192 ((dats m 0 c).arrAt 3 cfg0.N) shapeCasts_S64x8192_S64x1x8192 := by
  have arr_inj : Function.Injective (Pipeline.arrRef spec0) := by decide
  have e := Pipeline.withArrays_arr spec0 arr_inj c (V0 m c) (fun w => (dats m 0 c).arrAt w cfg0.N) 3
  unfold Pipeline.afterTail₀
  show StableHlo.after hostOps1 _ (Proc.devRef .tc main_v3) = _
  after_results
  funext i
  exact congrArg (fun f => shapeCast S64x1x8192 f shapeCasts_S64x8192_S64x1x8192 i) e

/-- The run: the result is the linear layer of the arguments, and the arguments end unchanged. -/
theorem run : θ_run defs (onTc (τ := τ) (main (F := Ideal))) ⟨m, fun _ => 0, ρ⟩ fun r => ∀ c : Dev nD,
    r.2.mem ((c : Thread nD τ).loc main_v3)
      = Cert.Linear.layer shapeCasts_S64x1x8192_S64x8192 shapeCasts_S8192_S1x8192 shapeCasts_S64x8192_S64x1x8192
          (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨?_, ?_, ?_, ?_⟩) (run_main (F := Ideal) m ρ)
  · refine ((h c).2 main_v3 (Pipeline.mem_restRefs_of main_v3 (by decide) (by decide))).trans ((tail_main_v3 m c).trans ?_)
    rw [final m c]
    unfold Cert.Linear.layer
    rw [← V_main_v0 m c, ← V_main_v1 m c, ← V_main_arg1 m c]
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end Cert.KernelIdeal.KValue

end
-- ==== Proof.ReferenceValue.lean ====
/- What the reference computes: its result array is the linear layer of its three arguments. -/
module

public import proofs.«01_k».proof.Proof.Linear
public import proofs.«01_k».proof.Proof.Gen.ReferenceIdeal.Frame

@[expose] public section

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

/-- The body's one payload is the linear layer of the three loaded arrays. -/
theorem pay_eq (w : Vec Ideal S8192x8192 .fp8e4m3) (x : Vec Ideal S64x8192 .bf16) (s : Vec Ideal S1x8192 .f32) :
    k0_pay1 (F := Ideal) w x s = Cert.Linear.linear x w s := by
  funext j
  obtain ⟨r, c, rfl⟩ : ∃ r c, j = ix2 r c := ⟨_, _, ValueIdx.eq_ix2 j⟩
  pointwise [k0_pay1, Cert.Linear.linear]

variable (m : (ℓ : Loc nD τ sig) → Buf (Elt Ideal) ℓ) (ρ : Dev nD → PrngReg)

/-- The one grid point. -/
def t₀ : Fin cfg0.N := ⟨0, by decide⟩

/-- A pair of offsets that are both zero. -/
theorem hz (z : Fin 2 → Nat) (h0 : z 0 = 0) (h1 : z 1 = 0) : z = fun _ => 0 :=
  funext fun a => by fin_cases a <;> assumption

/-- What point `t` writes back: the body's payload of the blocks of the inputs at `t`. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The result array after the run, read through its one block, is what the one point wrote back. -/
theorem final_out (c : Dev nD) :
    ((cfg0.win 3).blk t₀).view.read (Elt Ideal) ((dats m 0 c).arrAt 3 cfg0.N) = (dats m 0 c).flushed 3 t₀ := by
  rw [show cfg0.N = (t₀ : Fin cfg0.N).val + 1 from rfl, (dats m 0 c).arrAt_succ 3 t₀,
    show (cfg0.win 3).flush t₀ = true from by decide, if_pos rfl]
  exact View.read_write_univ _ _

/-- The result array ends holding the linear layer of the arrays the launch finds. -/
theorem final (c : Dev nD) :
    (dats m 0 c).arrAt 3 cfg0.N = Cert.Linear.linear (V m c main_v0) (V m c main_arg1) (V m c main_v1) := by
  have ho := final_out m c
  have hr3 := fun f => Memref.read_access_unit_zero (Elt Ideal) main_v2
    (off := fun a => win0_3.index t₀ a * main_v2.ty.shape.size a) (hz _ (by decide) (by decide))
    (fun a => by fin_cases a <;> decide) f
  have hr0 := fun f => Memref.read_access_unit_zero (Elt Ideal) main_v0
    (off := fun a => win0_0.index t₀ a * main_v0.ty.shape.size a) (hz _ (by decide) (by decide))
    (fun a => by fin_cases a <;> decide) f
  have hr1 := fun f => Memref.read_access_unit_zero (Elt Ideal) main_arg1
    (off := fun a => win0_1.index t₀ a * main_arg1.ty.shape.size a) (hz _ (by decide) (by decide))
    (fun a => by fin_cases a <;> decide) f
  have hr2 := fun f => Memref.read_access_unit_zero (Elt Ideal) main_v1
    (off := fun a => win0_2.index t₀ a * main_v1.ty.shape.size a) (hz _ (by decide) (by decide))
    (fun a => by fin_cases a <;> decide) f
  rw [hr3] at ho
  rw [ho, flushed3]
  unfold out0_3
  rw [View.canon_unit_zero (hz _ rfl rfl), View.ld_unit_zero (hz _ rfl rfl), View.ld_unit_zero (hz _ rfl rfl),
    View.ld_unit_zero (hz _ rfl rfl), pay_eq]
  unfold iblk
  rw [hr0, hr1, hr2]
  rfl

/-- The host reshapes the activations to a matrix before the launch. -/
theorem V_main_v0 (c : Dev nD) :
    V m c main_v0 = shapeCast S64x8192 (m ((c : Thread nD τ).loc main_arg0)) shapeCasts_S64x1x8192_S64x8192 := by
  show StableHlo.after hostOps0 (fun b => m (c, b)) (Proc.devRef .tc main_v0) = _
  after_results
  rfl

/-- The host reshapes the scales to a row before the launch. -/
theorem V_main_v1 (c : Dev nD) :
    V m c main_v1 = shapeCast S1x8192 (m ((c : Thread nD τ).loc main_arg2)) shapeCasts_S8192_S1x8192 := by
  show StableHlo.after hostOps0 (fun b => m (c, b)) (Proc.devRef .tc main_v1) = _
  after_results
  rfl

/-- After the region the host gives the result array the shape of the activations. -/
theorem tail_main_v3 (c : Dev nD) :
    Pipeline.afterTail₀ cfgs (dats m) 0 (V0 m) [hostOps1] c main_v3
      = shapeCast S64x1x8192 ((dats m 0 c).arrAt 3 cfg0.N) shapeCasts_S64x8192_S64x1x8192 := by
  have arr_inj : Function.Injective (Pipeline.arrRef spec0) := by decide
  have e := Pipeline.withArrays_arr spec0 arr_inj c (V0 m c) (fun w => (dats m 0 c).arrAt w cfg0.N) 3
  unfold Pipeline.afterTail₀
  show StableHlo.after hostOps1 _ (Proc.devRef .tc main_v3) = _
  after_results
  funext i
  exact congrArg (fun f => shapeCast S64x1x8192 f shapeCasts_S64x8192_S64x1x8192 i) e

/-- The run: the result is the linear layer of the arguments, and the arguments end unchanged. -/
theorem run : θ_run defs (onTc (τ := τ) (main (F := Ideal))) ⟨m, fun _ => 0, ρ⟩ fun r => ∀ c : Dev nD,
    r.2.mem ((c : Thread nD τ).loc main_v3)
      = Cert.Linear.layer shapeCasts_S64x1x8192_S64x8192 shapeCasts_S8192_S1x8192 shapeCasts_S64x8192_S64x1x8192
          (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨?_, ?_, ?_, ?_⟩) (run_main (F := Ideal) m ρ)
  · refine ((h c).2 main_v3 (Pipeline.mem_restRefs_of main_v3 (by decide) (by decide))).trans ((tail_main_v3 m c).trans ?_)
    rw [final m c]
    unfold Cert.Linear.layer
    rw [← V_main_v0 m c, ← V_main_v1 m c, ← V_main_arg1 m c]
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- From equal arguments the kernel and the reference end with equal results: both are the linear layer of the arguments. -/
theorem algebraic : Cert.algebraic_KernelIdeal_ReferenceIdeal := by
  intro m g m' g' _ hargs
  refine ⟨fun c => Cert.Linear.layer Cert.KernelIdeal.Gen.shapeCasts_S64x1x8192_S64x8192 Cert.KernelIdeal.Gen.shapeCasts_S8192_S1x8192
    Cert.KernelIdeal.Gen.shapeCasts_S64x8192_S64x1x8192
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun r h c => h c) (Cert.KernelIdeal.KValue.run m g)
  · refine (θ_run _ _ _).mono (fun r h c => ⟨(h c).1.trans ?_, (h c).2⟩)
      (Cert.ReferenceIdeal.RefValue.run m' g')
    obtain ⟨h0, h1, h2⟩ := hargs c
    rw [h0, h1, h2]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
